-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S8192x768 : Shape := ⟨2, ![8192, 768]⟩
abbrev S4x512x768 : Shape := ⟨3, ![4, 512, 768]⟩
abbrev S512x768 : Shape := ⟨2, ![512, 768]⟩
abbrev S512 : Shape := ⟨1, ![512]⟩
abbrev S512x1 : Shape := ⟨2, ![512, 1]⟩
abbrev S1x512x768 : Shape := ⟨3, ![1, 512, 768]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S4x8192x768, .f32⟩
  | .local _ .vmem, ⟨0, _⟩ => ⟨S4x512x768, .f32⟩
  | .local _ .vmem, ⟨1, _⟩ => ⟨S4x512x768, .f32⟩
  | .local _ .vmem, ⟨2, _⟩ => ⟨S512x768, .f32⟩
  | .local _ .vmem, ⟨3, _⟩ => ⟨S512x768, .f32⟩
  | .local _ .vmem, ⟨4, _⟩ => ⟨S4x512x768, .f32⟩
  | .local _ .vmem, ⟨5, _⟩ => ⟨S4x512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x8192x768 : Shape := ⟨3, ![4, 8192, 768]⟩
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x8192x1 : Shape := ⟨3, ![1, 8192, 1]⟩
abbrev S1 : Shape := ⟨1, ![1]⟩
abbrev S1x1x1 : Shape := ⟨3, ![1, 1, 1]⟩
abbrev S1x8192x768 : Shape := ⟨3, ![1, 8192, 768]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x768, .f32⟩
  | .hbm, ⟨21, _⟩ => ⟨S8192x768, .f32⟩
  | .hbm, ⟨22, _⟩ => ⟨S8192, .i32⟩
  | .hbm, ⟨23, _⟩ => ⟨S1x8192, .i32⟩
  | .hbm, ⟨24, _⟩ => ⟨S_, .i32⟩
  | .hbm, ⟨25, _⟩ => ⟨S1x8192, .i32⟩
  | .hbm, ⟨26, _⟩ => ⟨S1x8192, .i1⟩
  | .hbm, ⟨27, _⟩ => ⟨S_, .i32⟩
  | .hbm, ⟨28, _⟩ => ⟨S1x8192, .i32⟩
  | .hbm, ⟨29, _⟩ => ⟨S1x8192, .i32⟩
  | .hbm, ⟨30, _⟩ => ⟨S1x8192, .i32⟩
  | .hbm, ⟨31, _⟩ => ⟨S1x8192x1, .i32⟩
  | .hbm, ⟨32, _⟩ => ⟨S1, .i32⟩
  | .hbm, ⟨33, _⟩ => ⟨S_, .i32⟩
  | .hbm, ⟨34, _⟩ => ⟨S1x8192x1, .i32⟩
  | .hbm, ⟨35, _⟩ => ⟨S1x8192x1, .i1⟩
  | .hbm, ⟨36, _⟩ => ⟨S1x1x1, .i32⟩
  | .hbm, ⟨37, _⟩ => ⟨S1x8192x1, .i32⟩
  | .hbm, ⟨38, _⟩ => ⟨S1x8192x1, .i1⟩
  | .hbm, ⟨39, _⟩ => ⟨S1x8192x1, .i1⟩
  | .hbm, ⟨40, _⟩ => ⟨S_, .i1⟩
  | .hbm, ⟨41, _⟩ => ⟨S1x8192, .i1⟩
  | .hbm, ⟨42, _⟩ => ⟨S1x8192x768, .f32⟩
  | .hbm, ⟨43, _⟩ => ⟨S1x8192x768, .i1⟩
  | .hbm, ⟨44, _⟩ => ⟨S_, .f32⟩
  | .hbm, ⟨45, _⟩ => ⟨S1x8192x768, .f32⟩
  | .hbm, ⟨46, _⟩ => ⟨S1x8192x768, .f32⟩
  | .hbm, ⟨47, _⟩ => ⟨S4x8192x768, .f32⟩
  | .hbm, ⟨48, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_call1_v0 : Ref sig .tc := ⟨.hbm, 17, rfl⟩
abbrev main_call1_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩

abbrev nD : Nat := 1
abbrev τ : Topo := Topo.v7x

variable {F : FTy → Type} [FloatOps F]
-- ==== Proof.Spec.lean ====
/-
  What both programs compute, written once over the extended reals: row `p` of the weight is scaled by `rowScale` of the
  sum of its squares, and every batch entry of `x` has the scaled row added.
-/
module

public import Idealize.ShloMosaic.PureOps.Ideal
public import Idealize.ShloMosaic.Lib.ValueIdx
public import Idealize.ShloMosaic.Lib.IdealHost

@[expose] public section

noncomputable section

namespace Cert.Renorm

open Idealize.ShloMosaic Idealize.ShloMosaic.ValueIdx
open scoped BigOperators

/-- The small constant of the denominator: the real that the f32 word of `1e-7` denotes. -/
def eps : EReal := Ideal.ofBits .f32 0x33D6BF95#32

/-- The factor of a row whose squares sum to `q`: with `n = √q`, it is `1 / (n + eps)` where `n > 1`, else `1`. -/
def rowScale (q : EReal) : EReal := if 1 < Ideal.sqrt q then Ideal.div 1 (Ideal.sqrt q + eps) else 1

/-- The sum of the squares of a row of 768 features. -/
def rowSq (row : Fin 768 → EReal) : EReal := ∑ k : Fin 768, row k * row k

/-- The result: `x[b, p, f] + w[p, f] * rowScale(row p of w)`. -/
def embed (x : (⟨3, ![4, 8192, 768]⟩ : Shape).Idx → EReal) (w : (⟨2, ![8192, 768]⟩ : Shape).Idx → EReal) :
    (⟨3, ![4, 8192, 768]⟩ : Shape).Idx → EReal := fun i =>
  x i + w (ix2 (i 1) (i 2)) * rowScale (rowSq fun k => w (ix2 (i 1) k))

/-- The factor as a program spells it: a comparison to an `i1`, then a selection between two words' values. -/
theorem select_eq_rowScale (q : EReal) :
    Scalar.select (Ideal.cmp .ogt (Ideal.sqrt q) (Ideal.ofBits .f32 0x3F800000#32))
      (Ideal.div (Ideal.ofBits .f32 0x3F800000#32) (Ideal.sqrt q + Ideal.ofBits .f32 0x33D6BF95#32))
      (Ideal.ofBits .f32 0x3F800000#32) = rowScale q := by
  rw [Ideal.ofBits_one_f32]
  unfold rowScale Ideal.cmp
  by_cases h : 1 < Ideal.sqrt q
  · rw [if_pos h]; simp only [h, decide_true]; exact select_one _ _
  · rw [if_neg h]; simp only [h, decide_false]; exact select_zero _ _

end Cert.Renorm

end
-- ==== Proof.KernelBlock.lean ====
/-
  The kernel's side: the block that a grid point writes back is the point's block of `Cert.Renorm.embed` of the two
  arguments, and the sixteen blocks cover the result, so the result array ends at `embed`.
-/
module

public import proofs.«01_k».proof.Proof.Spec
public import proofs.«01_k».proof.Proof.Gen.KernelIdeal.Value
public import Idealize.ShloMosaic.PureOps.Ideal.Laws

@[expose] public section

noncomputable section

namespace Cert.KernelIdeal.Embed

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The result that device `c`'s two argument arrays give. -/
abbrev goal (c : Dev nD) : S4x8192x768.Idx → EReal :=
  Cert.Renorm.embed (m ((c : Thread nD τ).loc main_arg0)) (m ((c : Thread nD τ).loc main_arg1))

/-- Where each window's block lies at point `t`: batch and feature blocks at 0, the position block at `t`. -/
theorem idx_at : ∀ t : Fin cfg0.N,
    (win0_0.index t 0 = 0 ∧ win0_0.index t 1 = t.val ∧ win0_0.index t 2 = 0)
    ∧ (win0_1.index t 0 = t.val ∧ win0_1.index t 1 = 0)
    ∧ (win0_2.index t 0 = 0 ∧ win0_2.index t 1 = t.val ∧ win0_2.index t 2 = 0) :=
  (by decide +kernel : ∀ t : Fin grid0.N,
    (win0_0.index t 0 = 0 ∧ win0_0.index t 1 = t.val ∧ win0_0.index t 2 = 0)
    ∧ (win0_1.index t 0 = t.val ∧ win0_1.index t 1 = 0)
    ∧ (win0_2.index t 0 = 0 ∧ win0_2.index t 1 = t.val ∧ win0_2.index t 2 = 0))

/-- Position `r` of point `t`'s block, among the 8192 positions. -/
abbrev pos (t : Fin cfg0.N) (r : Fin 512) : Fin 8192 :=
  ⟨t.val * 512 + r.val, by have h := t.isLt; have hN : cfg0.N = 16 := N_0; have := r.isLt; omega⟩

/-- The block of `x` at point `t`, read at an index. -/
theorem x_block (c : Dev nD) (t : Fin cfg0.N) (y : S4x512x768.Idx) :
    iblk m c 0 t y = m ((c : Thread nD τ).loc main_arg0) (ix3 (y 0) (pos t (y 1)) (y 2)) := by
  obtain ⟨⟨h0, h1, h2⟩, -, -⟩ := idx_at t
  refine congrArg (m ((c : Thread nD τ).loc main_arg0)) (funext fun a => Fin.ext ?_)
  match a with
  | ⟨0, _⟩ => show win0_0.index t 0 * 4 + 1 * (y 0).val = (y 0).val; rw [h0]; omega
  | ⟨1, _⟩ => show win0_0.index t 1 * 512 + 1 * (y 1).val = t.val * 512 + (y 1).val; rw [h1]; omega
  | ⟨2, _⟩ => show win0_0.index t 2 * 768 + 1 * (y 2).val = (y 2).val; rw [h2]; omega

/-- The block of the weight at point `t`, read at an index. -/
theorem w_block (c : Dev nD) (t : Fin cfg0.N) (y : S512x768.Idx) :
    iblk m c 1 t y = m ((c : Thread nD τ).loc main_arg1) (ix2 (pos t (y 0)) (y 1)) := by
  obtain ⟨-, ⟨h0, h1⟩, -⟩ := idx_at t
  refine congrArg (m ((c : Thread nD τ).loc main_arg1)) (funext fun a => Fin.ext ?_)
  match a with
  | ⟨0, _⟩ => show win0_1.index t 0 * 512 + 1 * (y 0).val = t.val * 512 + (y 0).val; rw [h0]; omega
  | ⟨1, _⟩ => show win0_1.index t 1 * 768 + 1 * (y 1).val = (y 1).val; rw [h1]; omega

/-- Any array over the result's shape, read through point `t`'s block. -/
theorem o_block (G : S4x8192x768.Idx → EReal) (t : Fin cfg0.N) (y : S4x512x768.Idx) :
    (win0_2.blk t).view.read (Elt Ideal) G y = G (ix3 (y 0) (pos t (y 1)) (y 2)) := by
  obtain ⟨-, -, h0, h1, h2⟩ := idx_at t
  refine congrArg G (funext fun a => Fin.ext ?_)
  match a with
  | ⟨0, _⟩ => show win0_2.index t 0 * 4 + 1 * (y 0).val = (y 0).val; rw [h0]; omega
  | ⟨1, _⟩ => show win0_2.index t 1 * 512 + 1 * (y 1).val = t.val * 512 + (y 1).val; rw [h1]; omega
  | ⟨2, _⟩ => show win0_2.index t 2 * 768 + 1 * (y 2).val = (y 2).val; rw [h2]; omega

/-- The body's sum along the features of the squares of a block's row. -/
theorem sumsq (P : FVec Ideal S512x768 .f32) (r : S512.Idx) :
    multiReduction .add [1] S512 (mulf P P) 0x00000000#32 reduces_S512x768_S512 (.inl rfl) rfl r
      = Cert.Renorm.rowSq fun k => P (ix2 (r 0) k) := by
  refine (Ideal.multiReduction_add_single _ _ _ _ _ r).trans (Finset.sum_congr rfl fun k _ => ?_)
  have e : reduces_S512x768_S512.lift r k = ix2 (n0 := 512) (n1 := 768) (r 0) k := by
    funext a; refine Fin.ext ?_
    match a with
    | ⟨0, _⟩ => rfl
    | ⟨1, _⟩ => rfl
  rw [e]; rfl

/-- What the body leaves in its output block, at an index: `x + w * rowScale` within the blocks it loaded. -/
theorem body_value (X : Vec Ideal S4x512x768 .f32) (P : Vec Ideal S512x768 .f32) (y : S4x512x768.Idx) :
    out0_2 X P y = X y + P (ix2 (y 1) (y 2)) * Cert.Renorm.rowScale (Cert.Renorm.rowSq fun k => P (ix2 (y 1) k)) := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.ld_unit_zero hz2, View.ld_unit_zero hz3, Value.canon2_eq]
  have ex : Value.ix2_0 y = y := by
    funext a; match a with | ⟨0, _⟩ => rfl | ⟨1, _⟩ => rfl | ⟨2, _⟩ => rfl
  have ew : Value.ix2_1 y = ix2 (n0 := 512) (n1 := 768) (y 1) (y 2) := by
    funext a; match a with | ⟨0, _⟩ => rfl | ⟨1, _⟩ => rfl
  show X (Value.ix2_0 y) + P (Value.ix2_1 y) * Scalar.select (Ideal.cmp .ogt (Ideal.sqrt _) (Ideal.ofBits .f32 0x3F800000#32))
      (Ideal.div (Ideal.ofBits .f32 0x3F800000#32) (Ideal.sqrt _ + Ideal.ofBits .f32 0x33D6BF95#32))
      (Ideal.ofBits .f32 0x3F800000#32) = _
  rw [sumsq, Cert.Renorm.select_eq_rowScale, ex, ew]
  rfl

/-- What point `t` writes back is its block of the whole result. -/
theorem flushed_goal (c : Dev nD) (t : Fin cfg0.N) :
    (dats m 0 c).flushed 2 t = ((cfg0.win 2).blk t).view.read (Elt Ideal) (goal m c) := by
  rw [Value.flushed2]
  funext y
  show out0_2 (iblk m c 0 t) (iblk m c 1 t) y = (win0_2.blk t).view.read (Elt Ideal) (goal m c) y
  rw [body_value, o_block, x_block, w_block]
  simp only [w_block]
  rfl

/-- Every index of the result lies in the block of the point that its position, divided by 512, names. -/
theorem cover (i : S4x8192x768.Idx) :
    ∃ t : Fin cfg0.N, (cfg0.win 2).flush t = true ∧ i ∈ ((cfg0.win 2).blk t).view.set := by
  have i0 : (i 0).val < 4 := (i 0).isLt
  have i1 : (i 1).val < 8192 := (i 1).isLt
  have i2 : (i 2).val < 768 := (i 2).isLt
  have hN : cfg0.N = 16 := N_0
  obtain ⟨t, ht⟩ : ∃ t : Fin cfg0.N, t.val = (i 1).val / 512 := ⟨⟨(i 1).val / 512, by omega⟩, rfl⟩
  refine ⟨t, flush0_2 t, ?_⟩
  obtain ⟨-, -, h0, h1, h2⟩ := idx_at t
  show i ∈ ((View.whole main_v0).slice (win0_2.rect t)).set
  rw [View.set_slice_whole, Rect.mem_set_unit]
  intro a
  match a with
  | ⟨0, _⟩ => show win0_2.index t 0 * 4 ≤ (i 0).val ∧ (i 0).val < win0_2.index t 0 * 4 + 4; rw [h0]; omega
  | ⟨1, _⟩ => show win0_2.index t 1 * 512 ≤ (i 1).val ∧ (i 1).val < win0_2.index t 1 * 512 + 512; rw [h1]; omega
  | ⟨2, _⟩ => show win0_2.index t 2 * 768 ≤ (i 2).val ∧ (i 2).val < win0_2.index t 2 * 768 + 768; rw [h2]; omega

/-- So the result array ends at `embed` of the arguments. -/
theorem final (c : Dev nD) : (dats m 0 c).arrAt 2 cfg0.N = goal m c :=
  (dats m 0 c).arrAt_eq_of_cover 2 (goal m c) (fun t _ => flushed_goal m c t) cover

/-- The kernel's run, read: the result at `embed`, the arguments unchanged. -/
theorem run : θ_run defs (onTc (τ := τ) (main (F := Ideal))) ⟨m, fun _ => 0, ρ⟩ fun r => ∀ c : Dev nD,
      r.2.mem ((c : Thread nD τ).loc main_v0) = goal m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Embed

end
-- ==== Proof.RefValue.lean ====
/-
  The reference's side: the composed term of its host operations is `Cert.Renorm.embed` of the two arguments. The
  positions are `0 … 8191`, so none is wrapped or out of range: the look-up reads row `p` at position `p` and its
  fill value is never selected.
-/
module

public import proofs.«01_k».proof.Proof.Spec
public import proofs.«01_k».proof.Proof.Gen.ReferenceIdeal.Run
public import Idealize.ShloMosaic.PureOps.Ideal.Laws
public import Idealize.ShloMosaic.Lib.Pipeline.Value
public import Idealize.ShloMosaic.Lib.ReduceAll

@[expose] public section

noncomputable section

namespace Cert.ReferenceIdeal.Embed

open Cert.ReferenceIdeal Cert.ReferenceIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-! ## The positions and the look-up -/

/-- The positions `0 … 8191` as one row of words. -/
abbrev positions : IVec S1x8192 32 := broadcastInDim S1x8192 ![1] bcast_S8192_S1x8192_1 (iotaInDim S8192 32 0)

/-- The positions after the look-up's wrapping of negative ones. -/
abbrev wrapped : IVec S1x8192 32 :=
  select (cmpi .slt positions (broadcastInDim S1x8192 ![] bcast_S_S1x8192 (constantI S_ 32 0#32)))
    (addi positions (broadcastInDim S1x8192 ![] bcast_S_S1x8192 (constantI S_ 32 8192#32))) positions

/-- The wrapped positions as the gather's start indices. -/
abbrev starts : IVec S1x8192x1 32 := broadcastInDim S1x8192x1 ![0, 1] bcast_S1x8192_S1x8192x1_0_1 wrapped

/-- The look-up's test that a position lies in `0 … 8191`, per start index. -/
abbrev inRange : IVec S1x8192x1 1 :=
  andi (cmpi .sge starts (broadcastInDim S1x8192x1 ![] bcast_S_S1x8192x1 (constantI S_ 32 0#32)))
    (cmpi .sle starts (broadcastInDim S1x8192x1 ![0, 1, 2] bcast_S1x1x1_S1x8192x1_0_1_2
      (broadcastInDim S1x1x1 ![2] bcast_S1_S1x1x1_2 (constantI S1 32 8191#32))))

/-- A position's word, read signed, is the position. -/
theorem toInt_pos {n : Nat} (h : n < 8192) : (BitVec.ofNat 32 n).toInt = n := by
  rw [BitVec.toInt_eq_toNat_of_lt (by rw [BitVec.toNat_ofNat]; omega), BitVec.toNat_ofNat]
  omega

/-- Position `p`'s word is `p`. -/
theorem positions_apply (j : S1x8192.Idx) : positions j = BitVec.ofNat 32 (j 1).val := by
  show broadcastInDim S1x8192 ![1] bcast_S8192_S1x8192_1 (iotaInDim S8192 32 0) j = _
  rw [broadcastInDim_apply _ _ _ j (ix1 (n := 8192) (j 1)) (fun a => by match a with | ⟨0, _⟩ => rfl)]
  rfl

/-- No position is negative, so wrapping changes none. -/
theorem wrapped_apply (j : S1x8192.Idx) : wrapped j = BitVec.ofNat 32 (j 1).val := by
  have hp := positions_apply j
  have hj : (j 1).val < 8192 := (j 1).isLt
  have hc : cmpi .slt positions (broadcastInDim S1x8192 ![] bcast_S_S1x8192 (constantI S_ 32 0#32)) j = 0#1 := by
    show IntOp.cmpi .slt (positions j) 0#32 = 0#1
    rw [hp]
    show BitVec.ofBool (BitVec.slt _ _) = 0#1
    rw [BitVec.slt_eq_decide, toInt_pos hj, BitVec.toInt_zero, decide_eq_false (not_lt.mpr (Int.natCast_nonneg _))]
    rfl
  show Scalar.select (cmpi .slt positions (broadcastInDim S1x8192 ![] bcast_S_S1x8192 (constantI S_ 32 0#32)) j) _ (positions j) = _
  rw [hc, select_zero, hp]

/-- The start index of position `p` is `p`. -/
theorem starts_apply (i : S1x8192x1.Idx) : starts i = BitVec.ofNat 32 (i 1).val := by
  show broadcastInDim S1x8192x1 ![0, 1] bcast_S1x8192_S1x8192x1_0_1 wrapped i = _
  rw [broadcastInDim_apply _ _ _ i (ix2 (n0 := 1) (n1 := 8192) ⟨0, Nat.one_pos⟩ (i 1))
    (fun a => by match a with | ⟨0, _⟩ => rfl | ⟨1, _⟩ => rfl), wrapped_apply]

/-- Every position is in range. -/
theorem inRange_apply (i : S1x8192x1.Idx) : inRange i = 1#1 := by
  have hi : (i 1).val < 8192 := (i 1).isLt
  have h0 : IntOp.cmpi .sge (starts i) 0#32 = 1#1 := by
    rw [starts_apply]
    show BitVec.ofBool (BitVec.sle _ _) = 1#1
    rw [BitVec.sle_eq_decide, toInt_pos hi, BitVec.toInt_zero, decide_eq_true (Int.natCast_nonneg _)]
    rfl
  have h1 : IntOp.cmpi .sle (starts i) 8191#32 = 1#1 := by
    rw [starts_apply]
    show BitVec.ofBool (BitVec.sle _ _) = 1#1
    rw [BitVec.sle_eq_decide, toInt_pos hi, show (8191#32).toInt = 8191 from by decide,
      decide_eq_true (by omega)]
    rfl
  show IntOp.andi (IntOp.cmpi .sge (starts i) 0#32) (IntOp.cmpi .sle (starts i) 8191#32) = 1#1
  rw [h0, h1]; rfl

/-- The test folded over the index vector is set at every position. -/
theorem mask_apply (j : S1x8192.Idx) :
    Host.reduce IntOp.andi inRange (constantI S_ 1 1#1) reducesTo_S1x8192x1_S1x8192_d2 h_S_ j = 1#1 :=
  Host.reduce_andi_one _ _ _ _ j rfl inRange_apply

/-- The rows gathered at the start indices: position `p` reads row `p` of the table. -/
theorem gather_row_apply (T : S8192x768.Idx → EReal) (y : S1x8192x768.Idx) :
    Host.gather gather_S8192x768_S1x8192x1_S1x8192x768_2_0_n_n_0_2_1768 T starts y = T (ix2 (y 1) (y 2)) := by
  unfold Host.gather
  refine congrArg T (funext fun a => Fin.ext ?_)
  generalize hd : gather_S8192x768_S1x8192x1_S1x8192x768_2_0_n_n_0_2_1768 = d
  show d.start y starts a + d.batchCoord y a + d.offCoord y a = _
  subst hd
  have hy : (y 1).val < 8192 := (y 1).isLt
  have ha : a = (0 : Fin S8192x768.rank) ∨ a = (1 : Fin S8192x768.rank) := by
    match a with
    | ⟨0, _⟩ => exact Or.inl rfl
    | ⟨1, _⟩ => exact Or.inr rfl
  rcases ha with rfl | rfl
  · rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin S8192x768.rank) ∈ gather_S8192x768_S1x8192x1_S1x8192x768_2_0_n_n_0_2_1768.startIndexMap from
      List.mem_singleton.mpr rfl), starts_apply]
    show min (BitVec.ofNat 32 (y 1).val).toInt.toNat 8191 + 0 + 0 = (y 1).val
    rw [toInt_pos hy]; omega
  · rw [GatherDims.batchCoord_eq_zero _ _ _ List.not_mem_nil]
    unfold GatherDims.start
    rw [dif_neg (fun h => by simpa using List.mem_singleton.mp h)]
    show 0 + 0 + (y 2).val = (y 2).val
    omega

/-! ## The table -/

/-- The host's sum along the features of the squares of a row. -/
theorem sumsq (W : FVec Ideal S8192x768 .f32) (r : S8192.Idx) :
    Host.reduceAdd (mulf W W) (constant S_ .f32 0x00000000#32) reducesTo_S8192x768_S8192_d1 h_S_ r
      = Cert.Renorm.rowSq fun k => W (ix2 (r 0) k) := by
  have hR : S8192x768.Reduces [1] S8192 := by decide
  show Ideal.hostReduceAdd reducesTo_S8192x768_S8192_d1 (mulf W W) (Ideal.ofBits .f32 0x00000000#32) r = _
  rw [Ideal.hostReduceAdd_single _ hR, show Ideal.ofBits .f32 0x00000000#32 = 0 by simp [Ideal.ofBits, Ideal.ieee], zero_add]
  refine Finset.sum_congr rfl fun k _ => ?_
  have e : hR.lift r k = ix2 (n0 := 8192) (n1 := 768) (r 0) k := by
    funext a; refine Fin.ext ?_
    match a with
    | ⟨0, _⟩ => rfl
    | ⟨1, _⟩ => rfl
  rw [e]; rfl

/-- The rows' norms, one column. -/
abbrev norms (W : FVec Ideal S8192x768 .f32) : FVec Ideal S8192x1 .f32 :=
  Host.sqrt (broadcastInDim S8192x1 ![0] bcast_S8192_S8192x1_0
    (Host.reduceAdd (mulf W W) (constant S_ .f32 0x00000000#32) reducesTo_S8192x768_S8192_d1 h_S_))

/-- The rows' factors, one column. -/
abbrev scales (W : FVec Ideal S8192x768 .f32) : FVec Ideal S8192x1 .f32 :=
  select (cmpf .ogt (norms W) (broadcastInDim S8192x1 ![] bcast_S_S8192x1 (constant S_ .f32 0x3F800000#32)))
    (Host.divf (broadcastInDim S8192x1 ![] bcast_S_S8192x1 (constant S_ .f32 0x3F800000#32))
      (addf (norms W) (broadcastInDim S8192x1 ![] bcast_S_S8192x1 (constant S_ .f32 0x33D6BF95#32))))
    (broadcastInDim S8192x1 ![] bcast_S_S8192x1 (id (constant S_ .f32 0x3F800000#32)))

/-- The renormalised table. -/
abbrev table (W : FVec Ideal S8192x768 .f32) : FVec Ideal S8192x768 .f32 :=
  mulf W (broadcastInDim S8192x768 ![0, 1] bcast_S8192x1_S8192x768_0_1 (scales W))

/-- The host's square root at an index. -/
theorem hostSqrt_apply {s : Shape} (v : FVec Ideal s .f32) (j : s.Idx) : Host.sqrt v j = Ideal.sqrt (v j) := rfl

/-- A norm is the root of the row's sum of squares. -/
theorem norms_apply (W : FVec Ideal S8192x768 .f32) (j : S8192x1.Idx) :
    norms W j = Ideal.sqrt (Cert.Renorm.rowSq fun k => W (ix2 (j 0) k)) := by
  rw [norms, hostSqrt_apply, broadcastInDim_apply _ _ _ j (ix1 (n := 8192) (j 0)) (fun a => by match a with | ⟨0, _⟩ => rfl), sumsq]

/-- A factor is `rowScale` of the row's sum of squares. -/
theorem scales_apply (W : FVec Ideal S8192x768 .f32) (j : S8192x1.Idx) :
    scales W j = Cert.Renorm.rowScale (Cert.Renorm.rowSq fun k => W (ix2 (j 0) k)) := by
  rw [scales, select_apply, ValueIdx.cmpf_apply, Ideal.cmpf_def, hostDivf_apply, addf_apply, broadcastInDim_scalar_apply,
    broadcastInDim_scalar_apply, broadcastInDim_scalar_apply, id, constant_apply, constant_apply, norms_apply, Cert.Renorm.select_eq_rowScale]

/-- The table at `(p, f)`: the weight times its row's factor. -/
theorem table_apply (W : FVec Ideal S8192x768 .f32) (i : S8192x768.Idx) :
    table W i = W i * Cert.Renorm.rowScale (Cert.Renorm.rowSq fun k => W (ix2 (i 0) k)) := by
  show W i * broadcastInDim S8192x768 ![0, 1] bcast_S8192x1_S8192x768_0_1 (scales W) i = _
  rw [broadcastInDim_apply _ _ _ i (ix2 (n0 := 8192) (n1 := 1) (i 0) ⟨0, Nat.one_pos⟩)
    (fun a => by match a with | ⟨0, _⟩ => rfl | ⟨1, _⟩ => rfl), scales_apply]

/-! ## The result -/

/-- The looked-up embedding: the gathered rows where the position is in range, the fill value elsewhere. -/
abbrev looked (W : FVec Ideal S8192x768 .f32) : FVec Ideal S1x8192x768 .f32 :=
  select (broadcastInDim S1x8192x768 ![0, 1] bcast_S1x8192_S1x8192x768_0_1
      (Host.reduce IntOp.andi inRange (constantI S_ 1 1#1) reducesTo_S1x8192x1_S1x8192_d2 h_S_))
    (Host.gather gather_S8192x768_S1x8192x1_S1x8192x768_2_0_n_n_0_2_1768 (table W) starts)
    (broadcastInDim S1x8192x768 ![] bcast_S_S1x8192x768 (constant S_ .f32 0x7FC00000#32))

/-- It is the table, row by row. -/
theorem looked_apply (W : FVec Ideal S8192x768 .f32) (y : S1x8192x768.Idx) : looked W y = table W (ix2 (y 1) (y 2)) := by
  show Scalar.select (broadcastInDim S1x8192x768 ![0, 1] bcast_S1x8192_S1x8192x768_0_1
      (Host.reduce IntOp.andi inRange (constantI S_ 1 1#1) reducesTo_S1x8192x1_S1x8192_d2 h_S_) y)
    (Host.gather gather_S8192x768_S1x8192x1_S1x8192x768_2_0_n_n_0_2_1768 (table W) starts y) _ = _
  rw [broadcastInDim_apply _ _ _ y (ix2 (n0 := 1) (n1 := 8192) ⟨0, Nat.one_pos⟩ (y 1))
    (fun a => by match a with | ⟨0, _⟩ => rfl | ⟨1, _⟩ => rfl), mask_apply, select_one, gather_row_apply]

/-- The reference's whole term is `embed`. -/
theorem term_eq (X : FVec Ideal S4x8192x768 .f32) (W : FVec Ideal S8192x768 .f32) :
    addf X (broadcastInDim S4x8192x768 ![0, 1, 2] bcast_S1x8192x768_S4x8192x768_0_1_2 (looked W)) = Cert.Renorm.embed X W := by
  funext i
  show X i + broadcastInDim S4x8192x768 ![0, 1, 2] bcast_S1x8192x768_S4x8192x768_0_1_2 (looked W) i = _
  rw [broadcastInDim_apply _ _ _ i (ix3 (n0 := 1) (n1 := 8192) (n2 := 768) ⟨0, Nat.one_pos⟩ (i 1) (i 2))
    (fun a => by match a with | ⟨0, _⟩ => rfl | ⟨1, _⟩ => rfl | ⟨2, _⟩ => rfl), looked_apply, table_apply]
  rfl

/-- The reference's run, read: the result at `embed`, the arguments unchanged. -/
theorem run : θ_run defs (onTc (τ := τ) (main (F := Ideal))) ⟨m, fun _ => 0, ρ⟩ fun r => ∀ c : Dev nD,
      r.2.mem ((c.tc : Thread nD τ).loc main_v14)
        = Cert.Renorm.embed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (term_eq _ _), (h c).2⟩) (Value.run (F := Ideal) m ρ)

end Cert.ReferenceIdeal.Embed

end
-- ==== Proof.lean ====
/-
  The certificate of the position embedding with renormalised rows (`x + table`, where `table` is the weight with each
  row of norm above 1 scaled by `1 / (norm + 1e-7)`), assembled.

  • The three frames: the kernel's two are the generated ones, the reference's is its run read at the arguments.
  • `preserves`: the ideal pass rewrote nothing.
  • `algebraic`: both programs end with `Cert.Renorm.embed` of their arguments — the kernel block by block
    (Proof/KernelBlock.lean), the reference through its table and its look-up at the positions (Proof/RefValue.lean).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelBlock
public import proofs.«01_k».proof.Proof.RefValue
public import Idealize.ShloMosaic.Lib.Quiescent

@[expose] public section

noncomputable section

namespace Cert.Proof

open Idealize.ShloMosaic Idealize.SL.Sem

/-- The reference leaves its arguments unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Embed.run m ρ)

/-- From equal arguments the kernel and the reference end with the same result, `Cert.Renorm.embed` of them. -/
theorem algebraic : Cert.algebraic_KernelIdeal_ReferenceIdeal := by
  intro m ρ m' ρ' _ hagree
  refine ⟨fun c => Cert.KernelIdeal.Embed.goal m c, Cert.KernelIdeal.Embed.run m ρ, ?_⟩
  refine (θ_run Cert.ReferenceIdeal.defs _ _).mono (fun _ h c => ⟨(h c).1.trans ?_, (h c).2⟩)
    (Cert.ReferenceIdeal.Embed.run m' ρ')
  rw [(hagree c).1, (hagree c).2]

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
